-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v3)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v3) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v3) = v0 c
          ∧ r.2.mem ((c.tc : Thread Cert.Reference.nD Cert.Reference.τ).loc Cert.Reference.main_arg0) = m' ((c.tc : Thread Cert.Reference.nD Cert.Reference.τ).loc Cert.Reference.main_arg0))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hReference : Cert.Reference.Facts) (hKernelIdeal : Cert.KernelIdeal.Facts) (hReferenceIdeal : Cert.ReferenceIdeal.Facts),
    quiescent_Kernel (hKernel := hKernel)
    ∧ quiescent_Reference (hReference := hReference)
    ∧ quiescent_KernelIdeal (hKernelIdeal := hKernelIdeal)
    ∧ quiescent_ReferenceIdeal (hReferenceIdeal := hReferenceIdeal)
    ∧ bitexact_Kernel_Reference (hKernel := hKernel) (hReference := hReference)
    ∧ preserves_Kernel_KernelIdeal
    ∧ algebraic_KernelIdeal_ReferenceIdeal (hKernelIdeal := hKernelIdeal) (hReferenceIdeal := hReferenceIdeal)
-- ==== Kernel.lean ====
abbrev S1024x50 : Shape := ⟨2, ![1024, 50]⟩
abbrev S1x51200 : Shape := ⟨2, ![1, 51200]⟩
abbrev S1000x51200 : Shape := ⟨2, ![1000, 51200]⟩
abbrev S40x51200 : Shape := ⟨2, ![40, 51200]⟩
abbrev S_ : Shape := ⟨0, ![]⟩
abbrev S51200x1000 : Shape := ⟨2, ![51200, 1000]⟩
abbrev S1x51200x1000 : Shape := ⟨3, ![1, 51200, 1000]⟩

abbrev nBuf : Space → Nat
  | .hbm => 5
  | .vmem => 3
  | .smem => 0
  | _ => 0

abbrev bufTy : (tb : Table) → Fin (tcTables nBuf tb) → BufTy
  | .hbm, ⟨0, _⟩ => ⟨S1024x50, .f32⟩
  | .hbm, ⟨1, _⟩ => ⟨S1x51200, .f32⟩
  | .hbm, ⟨2, _⟩ => ⟨S1000x51200, .f32⟩
  | .hbm, ⟨3, _⟩ => ⟨S51200x1000, .f32⟩
  | .hbm, ⟨4, _⟩ => ⟨S1x51200x1000, .f32⟩
  | .local _ .vmem, ⟨0, _⟩ => ⟨S40x51200, .f32⟩
  | .local _ .vmem, ⟨1, _⟩ => ⟨S40x51200, .f32⟩
  | .local _ .vmem, ⟨2, _⟩ => ⟨S1x51200, .f32⟩
  | _, _ => ⟨S1024x50, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![25], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S40x51200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== Reference.lean ====
abbrev S1024x50 : Shape := ⟨2, ![1024, 50]⟩
abbrev S51200 : Shape := ⟨1, ![51200]⟩
abbrev S51200x1 : Shape := ⟨2, ![51200, 1]⟩
abbrev S1x1000 : Shape := ⟨2, ![1, 1000]⟩
abbrev S51200x1000 : Shape := ⟨2, ![51200, 1000]⟩
abbrev S1x51200x1000 : Shape := ⟨3, ![1, 51200, 1000]⟩

abbrev nBuf : Space → Nat
  | .hbm => 10
  | .vmem => 0
  | .smem => 0
  | _ => 0

abbrev bufTy : (tb : Table) → Fin (tcTables nBuf tb) → BufTy
  | .hbm, ⟨0, _⟩ => ⟨S1024x50, .f32⟩
  | .hbm, ⟨1, _⟩ => ⟨S51200, .f32⟩
  | .hbm, ⟨2, _⟩ => ⟨S51200, .i32⟩
  | .hbm, ⟨3, _⟩ => ⟨S51200x1, .i32⟩
  | .hbm, ⟨4, _⟩ => ⟨S1x1000, .i32⟩
  | .hbm, ⟨5, _⟩ => ⟨S51200x1000, .i32⟩
  | .hbm, ⟨6, _⟩ => ⟨S51200x1000, .i32⟩
  | .hbm, ⟨7, _⟩ => ⟨S51200x1000, .i1⟩
  | .hbm, ⟨8, _⟩ => ⟨S51200x1000, .f32⟩
  | .hbm, ⟨9, _⟩ => ⟨S1x51200x1000, .f32⟩
  | _, _ => ⟨S1024x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v2 : Ref sig .tc := ⟨.hbm, 8, rfl⟩
abbrev main_v3 : Ref sig .tc := ⟨.hbm, 9, rfl⟩

abbrev nD : Nat := 1
abbrev τ : Topo := Topo.v7x

variable {F : FTy → Type} [FloatOps F]
-- ==== Proof.OneHot.lean ====
/-
  The one-hot array as plain mathematics, apart from either program, and the three facts both sides are compared by:
  what a converted comparison bit is, where an entry of the flattened argument comes from, and what the reference's
  chain of host operations holds at an index.
-/
module

public import Idealize.ShloMosaic.Lib.Pipeline.ValueKit
public import Idealize.ShloMosaic.Lib.Pointwise
public import Idealize.ShloMosaic.PureOps.BitExact

@[expose] public section

set_option maxRecDepth 16384

noncomputable section

namespace Cert.OneHot

open Idealize.ShloMosaic

variable {F : FTy → Type} [FloatOps F]

/-- The argument: 1024 rows of 50 tokens, each an index carried as a float. -/
abbrev Tokens : Shape := ⟨2, ![1024, 50]⟩
/-- The same tokens as one row of 51200. -/
abbrev Row : Shape := ⟨2, ![1, 51200]⟩
/-- The same tokens as a vector of 51200. -/
abbrev Flat : Shape := ⟨1, ![51200]⟩
/-- One row per depth, one column per token: the array the kernel writes. -/
abbrev ByDepth : Shape := ⟨2, ![1000, 51200]⟩
/-- One row per token, one column per depth. -/
abbrev ByToken : Shape := ⟨2, ![51200, 1000]⟩
/-- The result: one batch of 51200 tokens by 1000 depths. -/
abbrev Result : Shape := ⟨3, ![1, 51200, 1000]⟩

/-- One entry of the one-hot array: the bit "the token's integer `w` is the depth `d`", as a float. -/
def cell (w : BitVec 32) (d : ℕ) : F .f32 :=
  FloatOps.uitofp .f32 (IntOp.cmpi .eq w (BitVec.ofNat 32 d))

/-- Over the reals an entry is one where the token's integer is the depth, and zero elsewhere. -/
theorem cell_ideal (w : BitVec 32) (d : ℕ) : (cell w d : Ideal .f32) = if w = BitVec.ofNat 32 d then 1 else 0 := by
  show (((BitVec.ofBool (w == BitVec.ofNat 32 d)).toNat : ℝ) : EReal) = _
  by_cases h : w = BitVec.ofNat 32 d <;> simp [h]

/-- The integer of token `k` of the flattened argument, which is token `k % 50` of row `k / 50`. -/
def token (x : Tokens.Idx → F .f32) (k : Fin 51200) : BitVec 32 :=
  FloatOps.fptosi 32 (x (ix2 (n0 := 1024) (n1 := 50) ⟨k.val / 50, by omega⟩ ⟨k.val % 50, by omega⟩))

/-- The one-hot encoding of the argument: entry `(0, k, d)` says whether token `k`'s integer is `d`. -/
def encode (x : Tokens.Idx → F .f32) : Result.Idx → F .f32 := fun i => cell (token x (i 1)) (i 2).val

/-- A float model converts a bit alike in two ways: zero-extended to 32 bits and read signed, or read unsigned. -/
def BitsConvertAlike (F : FTy → Type) [FloatOps F] : Prop :=
  ∀ b : BitVec 1, (FloatOps.sitofp .f32 (b.setWidth 32) : F .f32) = FloatOps.uitofp .f32 b

/-- A bit zero-extended to 32 bits and read signed is the bit read unsigned. -/
theorem toInt_setWidth (b : BitVec 1) : (b.setWidth 32).toInt = b.toNat := by
  revert b; decide

/-- The real numbers convert a bit alike in the two ways. -/
theorem bitsConvertAlike_ideal : BitsConvertAlike Ideal := fun b => by
  show (((b.setWidth 32).toInt : ℝ) : EReal) = ((b.toNat : ℝ) : EReal)
  rw [toInt_setWidth]; rfl

/-- The chip's words convert a bit alike in the two ways. -/
theorem bitsConvertAlike_bits : BitsConvertAlike Bits := fun b => by
  show Bits.sitofp32 (b.setWidth 32) = Bits.uitofp32 b
  unfold Bits.sitofp32 Bits.uitofp32
  rw [toInt_setWidth]

/-- Whether two words are equal does not depend on the order they are named in. -/
theorem cmpi_eq_comm (v w : BitVec 32) : IntOp.cmpi .eq v w = IntOp.cmpi .eq w v := by
  unfold IntOp.cmpi
  show BitVec.ofBool (v == w) = BitVec.ofBool (w == v)
  rw [Bool.beq_comm]

/-- Entry `k` of the argument reshaped to one row is entry `k % 50` of the argument's row `k / 50`. -/
theorem row_apply (x : Tokens.Idx → F .f32) (h : Tokens.ShapeCasts Row) (k : Fin 51200) :
    FloatOps.fptosi 32 (shapeCast Row x h (ix2 (n0 := 1) (n1 := 51200) 0 k)) = token x k := by
  pointwise [token]

/-- The kernel's array, one row per depth, reordered token first and given its batch of one, is the encoding. -/
theorem encode_of_byDepth (x : Tokens.Idx → F .f32) (h : Tokens.ShapeCasts Row) (ht : ByDepth.Transposes [1, 0] ByToken)
    (hr : ByToken.ShapeCasts Result) :
    shapeCast Result (transpose ByToken [1, 0] (fun i : ByDepth.Idx =>
      (cell (FloatOps.fptosi 32 (shapeCast Row x h (ix2 (n0 := 1) (n1 := 51200) 0 (i 1)))) (i 0).val : F .f32)) ht) hr = encode x := by
  funext i
  simp only [row_apply]
  pointwise [encode, token]

/-- The reference's chain of host operations over the argument is the encoding. -/
theorem encode_of_reference (x : Tokens.Idx → F .f32) (h : Tokens.ShapeCasts Flat)
    (h1 : Flat.BroadcastsInDim ⟨2, ![51200, 1]⟩ ![0])
    (h2 : (⟨2, ![51200, 1]⟩ : Shape).BroadcastsInDim ByToken ![0, 1])
    (h3 : (⟨2, ![1, 1000]⟩ : Shape).BroadcastsInDim ByToken ![0, 1]) (hr : ByToken.ShapeCasts Result) :
    shapeCast Result (uitofp (F := F) .f32 (cmpi .eq
      (broadcastInDim ByToken ![0, 1] h2 (broadcastInDim ⟨2, ![51200, 1]⟩ ![0] h1 (fptosi 32 (shapeCast Flat x h))))
      (broadcastInDim ByToken ![0, 1] h3 (iotaInDim ⟨2, ![1, 1000]⟩ 32 1)))) hr = encode x := by
  funext i
  pointwise [encode, cell, token]

end Cert.OneHot

end
-- ==== Proof.KernelIdealValue.lean ====
/-
  What `KernelIdeal` computes, at any float model: the scratch row the kernel fills at its first grid point and keeps,
  the block each point writes, the array after the last point, and the result after the host's reordering.
-/
module

public import proofs.«01_k».proof.Proof.Gen.KernelIdeal.Frame
public import proofs.«01_k».proof.Proof.OneHot
public import Idealize.ShloMosaic.Lib.Pipeline.ValueKit.Held
public import Idealize.ShloMosaic.Lib.Pipeline.ReadBack
public import Idealize.ShloMosaic.Lib.VecWindow
public import Idealize.ShloMosaic.Lib.Claim

@[expose] public section

set_option maxRecDepth 16384

noncomputable section

namespace Cert.KernelIdeal.Value

open Cert.KernelIdeal Cert.KernelIdeal.Gen Cert.OneHot Idealize.ShloMosaic Idealize.ShloMosaic.TcCoe Idealize.SL.Sem
open Idealize.ShloMosaic.Pipeline

variable {F : FTy → Type} [FloatOps F]
variable (m : (ℓ : Loc nD τ sig) → Buf (Elt F) ℓ) (ρ : Dev nD → PrngReg)

/-- The whole array the kernel writes, one row per depth: entry `(d, k)` says whether the integer of the row's token
    `k` is `d`. -/
def byDepth (row : Vec F S1x51200 .f32) : Vec F S1000x51200 .f32 := fun i =>
  cell (FloatOps.fptosi 32 (row (ix2 (n0 := 1) (n1 := 51200) 0 (i 1)))) (i 0).val

/-- The block a grid point writes, at an index: depth `40 * i + r`, token `k`. -/
theorem block_apply (hF : BitsConvertAlike F) (i : grid0.Coords) (row : Vec F S1x51200 .f32) (y : S40x51200.Idx) :
    k0_pay1 i row y = cell (FloatOps.fptosi 32 (row (ix2 (n0 := 1) (n1 := 51200) 0 (y 1)))) ((i 0).val * 40 + (y 0).val) := by
  have hd : IntOp.addi (BitVec.ofNat 32 (y 0).val) (Scalar.muli (BitVec.ofNat 32 (i 0).val) 40#32)
      = BitVec.ofNat 32 ((i 0).val * 40 + (y 0).val) := by
    show BitVec.ofNat 32 (y 0).val + BitVec.ofNat 32 (i 0).val * BitVec.ofNat 32 40 = _
    rw [← BitVec.ofNat_mul, ← BitVec.ofNat_add, Nat.add_comm]
  pointwise [k0_pay1, cell]
  rw [hd, cmpi_eq_comm, hF]

/-- The scratch row holds the flattened argument after every grid point: the first point copies it there, the others
    leave it. -/
theorem scratch_eq (c : Dev nD) (t : Fin cfg0.N) : (outsAt0 m c t.val t.isLt).2 = V m c main_v0 :=
  eq_of_write_hold (fun n h => (outsAt0 m c n h).2) 25 (fun _ => V m c main_v0)
    (fun t h => by
      rw [outsAt0_A m c t h]
      frame_out
      exact View.canon_cons_unit_lit (S := S1x51200) _ (V m c main_v0) [] (by decide))
    (fun t h => by
      rw [outsAt0_B m c t h]
      rfl) t

/-- Every grid point writes its block of the flattened argument. -/
theorem out_eq (c : Dev nD) (t : Fin cfg0.N) :
    (outsAt0 m c t.val t.isLt).1 = k0_pay1 (grid0.coords t) (V m c main_v0) := by
  by_cases h : t.val % 25 = 0
  · rw [outsAt0_A m c t h]
    frame_out
    exact congrArg (k0_pay1 (grid0.coords t)) (View.readCov_full (View.whole cc0_scratch0)
      inb_S1x51200_S1x51200_0_0 _ (V m c main_v0) [])
  · rw [outsAt0_B m c t h]
    frame_out
    rw [read_unread_whole]
    exact congrArg (k0_pay1 (grid0.coords t)) (scratch_eq m c ⟨t.val - 1, Nat.lt_of_le_of_lt (Nat.sub_le _ _) t.isLt⟩)

/-- Grid point `i` writes the `i`-th block of rows, over the whole width. -/
theorem index_eq : ∀ t : Fin cfg0.N, win0_0.index t = ![(grid0.coords t 0).val, 0] :=
  (by decide +kernel : ∀ t : Fin grid0.N, win0_0.index t = ![(grid0.coords t 0).val, 0])

/-- After the last grid point the kernel's array is the one-hot array, one row per depth. -/
theorem array_eq (hF : BitsConvertAlike F) (c : Dev nD) :
    (dats m 0 c).arrAt 0 cfg0.N = byDepth (V m c main_v0) := by
  refine (dats m 0 c).arrAt_eq_of_covers 0 _ (by decide +kernel) fun t hf y => ?_
  blk_simp
  rw [after0_0, out_eq, block_apply hF]
  have hd : ((win0_0.blk t).view.emb y 0).val = (grid0.coords t 0).val * 40 + (y 0).val := by
    blk_simp [index_eq]
  have hk : (win0_0.blk t).view.emb y 1 = y 1 := Fin.ext (by blk_simp [index_eq])
  unfold byDepth
  rw [hd, hk]

/-- The row the kernel reads is the argument, flattened. -/
theorem row_eq (c : Dev nD) :
    V m c main_v0 = shapeCast S1x51200 (m ((c.tc : Thread nD τ).loc main_arg0)) shapeCasts_S1024x50_S1x51200 := by
  show StableHlo.after hostOps0 _ _ = _
  after_results
  rfl

/-- The result the host hands back is the encoding of the argument. -/
theorem tail_eq (hF : BitsConvertAlike F) (c : Dev nD) :
    afterTail₀ cfgs (dats m) 0 (V0 m) [hostOps1] c main_v3 = encode (m ((c.tc : Thread nD τ).loc main_arg0)) := by
  show StableHlo.after hostOps1 _ _ = _
  after_results
  have hw : withArrays (cfgs 0).spec c (V0 m c) (fun w => (dats m 0 c).arrAt w (cfgs 0).N) (Proc.devRef .tc main_v1)
      = byDepth (V m c main_v0) :=
    (withArrays_arr (cfgs 0).spec (by decide) c (V0 m c) (fun w => (dats m 0 c).arrAt w (cfgs 0).N) 0).trans (array_eq m hF c)
  rw [hw, row_eq]
  exact encode_of_byDepth _ _ _ _

/-- Every execution ends with the encoding of the argument in the result, and the argument unchanged. -/
theorem run (hF : BitsConvertAlike F) :
    θ_run defs (onTc (τ := τ) (main (F := F))) ⟨m, fun _ => 0, ρ⟩ (fun r => ∀ c : Dev nD,
      r.2.mem ((c.tc : Thread nD τ).loc main_v3) = encode (m ((c.tc : Thread nD τ).loc main_arg0))
      ∧ r.2.mem ((c.tc : Thread nD τ).loc main_arg0) = m ((c.tc : Thread nD τ).loc main_arg0)) :=
  θ_run_mono (run_main m ρ) fun r h c =>
    ⟨((h c).2 main_v3 (mem_restRefs_of main_v3 (by decide) (by decide))).trans (tail_eq m hF c),
      ((h c).2 main_arg0 (mem_restRefs_of main_arg0 (by decide) (by decide))).trans (W_main_arg0 m (dats m) c)⟩

end Cert.KernelIdeal.Value

end
-- ==== Proof.ReferenceValue.lean ====
/-
  What the reference programs compute: their chains of host operations hold the one-hot encoding of the argument, leave
  the argument unchanged and end with every semaphore counter at zero.
-/
module

public import proofs.«01_k».proof.Proof.Gen.Reference.Run
public import proofs.«01_k».proof.Proof.Gen.ReferenceIdeal.Run
public import proofs.«01_k».proof.Proof.OneHot
public import Idealize.ShloMosaic.Lib.Quiescent

@[expose] public section

set_option maxRecDepth 16384

noncomputable section

namespace Cert.Reference.Value

open Cert.Reference Cert.Reference.Gen Cert.OneHot Idealize.ShloMosaic Idealize.ShloMosaic.TcCoe Idealize.SL.Sem

variable {F : FTy → Type} [FloatOps F]
variable (m : (ℓ : Loc nD τ sig) → Buf (Elt F) ℓ) (ρ : Dev nD → PrngReg)

/-- Every execution of `Reference` ends with the encoding of the argument in the result, and the argument unchanged. -/
theorem run_encode :
    θ_run defs (onTc (τ := τ) (main (F := F))) ⟨m, fun _ => 0, ρ⟩ (fun r => ∀ c : Dev nD,
      r.2.mem ((c.tc : Thread nD τ).loc main_v3) = encode (m ((c.tc : Thread nD τ).loc main_arg0))
      ∧ r.2.mem ((c.tc : Thread nD τ).loc main_arg0) = m ((c.tc : Thread nD τ).loc main_arg0)) :=
  θ_run_mono (run m ρ) fun _ h c => ⟨(h c).1.trans (encode_of_reference _ _ _ _ _ _), (h c).2⟩

/-- Every execution of `Reference` ends with the argument unchanged and every semaphore counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_mono (run m ρ) fun r h => ⟨fun c => (h c).2, sem_eq_zero_of_no_sems (by decide) r.2⟩

end Cert.Reference.Value

namespace Cert.ReferenceIdeal.Value

open Cert.ReferenceIdeal Cert.ReferenceIdeal.Gen Cert.OneHot Idealize.ShloMosaic Idealize.ShloMosaic.TcCoe Idealize.SL.Sem

variable {F : FTy → Type} [FloatOps F]
variable (m : (ℓ : Loc nD τ sig) → Buf (Elt F) ℓ) (ρ : Dev nD → PrngReg)

/-- Every execution of `ReferenceIdeal` ends with the encoding of the argument in the result, and the argument unchanged. -/
theorem run_encode :
    θ_run defs (onTc (τ := τ) (main (F := F))) ⟨m, fun _ => 0, ρ⟩ (fun r => ∀ c : Dev nD,
      r.2.mem ((c.tc : Thread nD τ).loc main_v3) = encode (m ((c.tc : Thread nD τ).loc main_arg0))
      ∧ r.2.mem ((c.tc : Thread nD τ).loc main_arg0) = m ((c.tc : Thread nD τ).loc main_arg0)) :=
  θ_run_mono (run m ρ) fun _ h c => ⟨(h c).1.trans (encode_of_reference _ _ _ _ _ _), (h c).2⟩

/-- Every execution of `ReferenceIdeal` ends with the argument unchanged and every semaphore counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_mono (run m ρ) fun r h => ⟨fun c => (h c).2, sem_eq_zero_of_no_sems (by decide) r.2⟩

end Cert.ReferenceIdeal.Value

end
-- ==== Proof.lean ====
/-
  The proof of every claim of the certificate. The kernel's and the reference's runs end, at either float model, with the
  same array `Cert.OneHot.encode` of the argument; the modules under Proof/ prove that for each program, and the claims
  follow by putting the two runs side by side.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.Gen.Reference.Run
public import proofs.«01_k».proof.Proof.KernelValue
public import proofs.«01_k».proof.Proof.KernelIdealValue
public import proofs.«01_k».proof.Proof.ReferenceValue

@[expose] public section

noncomputable section

namespace Cert.Proof

open Idealize.ShloMosaic Idealize.SL.Sem

/-- On the chip's words the kernel and the reference end with the same result, from the same argument. -/
theorem bitexact : Cert.bitexact_Kernel_Reference (hKernel := Cert.Kernel.Gen.facts) (hReference := Cert.Reference.Gen.facts) := by
  intro m g m' g' _ hagree
  refine ⟨fun c => Cert.OneHot.encode (F := Bits) (m ((c.tc : Thread Cert.Kernel.nD Cert.Kernel.τ).loc Cert.Kernel.main_arg0)),
    Cert.Kernel.Value.run m g Cert.OneHot.bitsConvertAlike_bits,
    θ_run_mono (Cert.Reference.Value.run_encode m' g') fun r h c => ⟨(h c).1.trans ?_, (h c).2⟩⟩
  rw [hagree c]

/-- Over the reals the kernel and the reference end with the same result, from the same argument. -/
theorem algebraic :
    Cert.algebraic_KernelIdeal_ReferenceIdeal (hKernelIdeal := Cert.KernelIdeal.Gen.facts) (hReferenceIdeal := Cert.ReferenceIdeal.Gen.facts) := by
  intro m g m' g' _ hagree
  refine ⟨fun c => Cert.OneHot.encode (F := Ideal) (m ((c.tc : Thread Cert.KernelIdeal.nD Cert.KernelIdeal.τ).loc Cert.KernelIdeal.main_arg0)),
    Cert.KernelIdeal.Value.run m g Cert.OneHot.bitsConvertAlike_ideal,
    θ_run_mono (Cert.ReferenceIdeal.Value.run_encode m' g') fun r h c => ⟨(h c).1.trans ?_, (h c).2⟩⟩
  rw [hagree c]

/-- Every claim of the certificate: the four frames, the equality on the chip's words, the equality over the reals. -/
theorem claim : Cert.Claim :=
  ⟨Cert.Kernel.Gen.facts, Cert.Reference.Gen.facts, Cert.KernelIdeal.Gen.facts, Cert.ReferenceIdeal.Gen.facts,
    fun m ρ _ => Cert.Kernel.Gen.frame m ρ, fun m ρ _ => Cert.Reference.Value.frame m ρ,
    fun m ρ _ => Cert.KernelIdeal.Gen.frame m ρ, fun m ρ _ => Cert.ReferenceIdeal.Value.frame m ρ,
    bitexact, trivial, algebraic⟩

end Cert.Proof

end
